-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x200 : Shape := ⟨2, ![4096, 200]⟩
abbrev S1000000x64 : Shape := ⟨2, ![1000000, 64]⟩
abbrev S1x64 : Shape := ⟨2, ![1, 64]⟩
abbrev S64x1 : Shape := ⟨2, ![64, 1]⟩
abbrev S200x64x4096 : Shape := ⟨3, ![200, 64, 4096]⟩
abbrev S5x64x4096 : Shape := ⟨3, ![5, 64, 4096]⟩
abbrev S1x64x1 : Shape := ⟨3, ![1, 64, 1]⟩
abbrev S4096x200x64 : Shape := ⟨3, ![4096, 200, 64]⟩

abbrev nBuf : Space → Nat
  | .hbm => 6
  | .vmem => 3
  | .smem => 0
  | _ => 0

abbrev bufTy : (tb : Table) → Fin (tcTables nBuf tb) → BufTy
  | .hbm, ⟨0, _⟩ => ⟨S4096x200, .i32⟩
  | .hbm, ⟨1, _⟩ => ⟨S1000000x64, .f32⟩
  | .hbm, ⟨2, _⟩ => ⟨S1x64, .f32⟩
  | .hbm, ⟨3, _⟩ => ⟨S64x1, .f32⟩
  | .hbm, ⟨4, _⟩ => ⟨S200x64x4096, .f32⟩
  | .hbm, ⟨5, _⟩ => ⟨S4096x200x64, .f32⟩
  | .local _ .vmem, ⟨0, _⟩ => ⟨S64x1, .f32⟩
  | .local _ .vmem, ⟨1, _⟩ => ⟨S5x64x4096, .f32⟩
  | .local _ .vmem, ⟨2, _⟩ => ⟨S5x64x4096, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x200 : Shape := ⟨2, ![4096, 200]⟩
abbrev S1000000x64 : Shape := ⟨2, ![1000000, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 57
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x64, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x64, .f32⟩
  | .hbm, ⟨21, _⟩ => ⟨S4096x200x64, .i1⟩
  | .hbm, ⟨22, _⟩ => ⟨S_, .f32⟩
  | .hbm, ⟨23, _⟩ => ⟨S4096x200x64, .f32⟩
  | .hbm, ⟨24, _⟩ => ⟨S4096x200x64, .f32⟩
  | .hbm, ⟨25, _⟩ => ⟨S_, .i32⟩
  | .hbm, ⟨26, _⟩ => ⟨S4096x200, .i32⟩
  | .hbm, ⟨27, _⟩ => ⟨S_, .i32⟩
  | .hbm, ⟨28, _⟩ => ⟨S4096x200, .i32⟩
  | .hbm, ⟨29, _⟩ => ⟨S4096x200, .i1⟩
  | .hbm, ⟨30, _⟩ => ⟨S_, .i32⟩
  | .hbm, ⟨31, _⟩ => ⟨S4096x200, .i32⟩
  | .hbm, ⟨32, _⟩ => ⟨S4096x200, .i32⟩
  | .hbm, ⟨33, _⟩ => ⟨S4096x200, .i32⟩
  | .hbm, ⟨34, _⟩ => ⟨S4096x200x1, .i32⟩
  | .hbm, ⟨35, _⟩ => ⟨S1, .i32⟩
  | .hbm, ⟨36, _⟩ => ⟨S_, .i32⟩
  | .hbm, ⟨37, _⟩ => ⟨S4096x200x1, .i32⟩
  | .hbm, ⟨38, _⟩ => ⟨S4096x200x1, .i1⟩
  | .hbm, ⟨39, _⟩ => ⟨S1x1x1, .i32⟩
  | .hbm, ⟨40, _⟩ => ⟨S4096x200x1, .i32⟩
  | .hbm, ⟨41, _⟩ => ⟨S4096x200x1, .i1⟩
  | .hbm, ⟨42, _⟩ => ⟨S4096x200x1, .i1⟩
  | .hbm, ⟨43, _⟩ => ⟨S_, .i1⟩
  | .hbm, ⟨44, _⟩ => ⟨S4096x200, .i1⟩
  | .hbm, ⟨45, _⟩ => ⟨S4096x200x64, .f32⟩
  | .hbm, ⟨46, _⟩ => ⟨S4096x200x64, .i1⟩
  | .hbm, ⟨47, _⟩ => ⟨S_, .f32⟩
  | .hbm, ⟨48, _⟩ => ⟨S4096x200x64, .f32⟩
  | .hbm, ⟨49, _⟩ => ⟨S4096x200x64, .f32⟩
  | .hbm, ⟨50, _⟩ => ⟨S_, .f32⟩
  | .hbm, ⟨51, _⟩ => ⟨S4096x200x64, .f32⟩
  | .hbm, ⟨52, _⟩ => ⟨S4096x200x64, .f32⟩
  | .hbm, ⟨53, _⟩ => ⟨S_, .f32⟩
  | .hbm, ⟨54, _⟩ => ⟨S4096x200x64, .f32⟩
  | .hbm, ⟨55, _⟩ => ⟨S4096x200x64, .f32⟩
  | .hbm, ⟨56, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_cst : Ref sig .tc := ⟨.hbm, 50, rfl⟩
abbrev main_v3 : Ref sig .tc := ⟨.hbm, 51, rfl⟩
abbrev main_v4 : Ref sig .tc := ⟨.hbm, 52, rfl⟩
abbrev main_cst_0 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩

abbrev nD : Nat := 1
abbrev τ : Topo := Topo.v7x

variable {F : FTy → Type} [FloatOps F]
-- ==== Proof.Spec.lean ====
/- What the kernel and the reference both compute: row 0 of the table at every token position.

   The file names no program. Beside that function it has the one fact about a host operation that the library does
   not state: a `stablehlo.gather` of whole rows of a matrix, read at an index. -/
module

public import Idealize.ShloMosaic.Lib.ValueIdx

@[expose] public section

noncomputable section

namespace Cert.Embed

open Idealize.ShloMosaic Idealize.ShloMosaic.ValueIdx

variable {α : Type}

/-- The padding row at every position: element `(b, l, d)` of the result is element `(0, d)` of the table. -/
def padRow {N D R C : Nat} (hN : 0 < N) (T : (⟨2, ![N, D]⟩ : Shape).Idx → α) : (⟨3, ![R, C, D]⟩ : Shape).Idx → α :=
  fun y => T (ix2 ⟨0, hN⟩ (y 2))

/-- The dimension numbers of `table[idx]` for a matrix `[N, D]` and integer indices `[R, C]` (as `[R, C, 1]`): each index
    names a row, which is copied whole. -/
abbrev rowDims (N D R C : Nat) (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The gather of rows read at `(b, l, d)`: column `d` of the row named by index `(b, l)`, read as a signed integer and
    clamped into the table. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (T : (⟨2, ![N, D]⟩ : Shape).Idx → α) (idx : IVec ⟨3, ![R, C, 1]⟩ w) (y : (⟨3, ![R, C, D]⟩ : Shape).Idx) :
    Host.gather (rowDims N D R C wf) T idx y
      = T (ix2 ⟨min (idx (ix3 (y 0) (y 1) 0)).toInt.toNat (N - 1), by omega⟩ (y 2)) := by
  unfold Host.gather
  refine congrArg T (funext fun a => Fin.ext ?_)
  show (rowDims N D R C wf).start y idx a + (rowDims N D R C wf).batchCoord y a + (rowDims N D R C wf).offCoord y a = _
  rw [GatherDims.batchCoord_eq_zero _ _ _ List.not_mem_nil, Nat.add_zero]
  match a with
  | ⟨0, _⟩ =>
    have hoff := GatherDims.offCoord_eq_zero (rowDims N D R C wf) y (0 : Fin 2)
      (fun h => ((GatherDims.mem_sKept _ _).mp h).1 (List.mem_singleton.mpr rfl))
    have hpos : (rowDims N D R C wf).siIdx y ⟨List.idxOf (0 : Fin 2) (rowDims N D R C wf).startIndexMap,
        List.idxOf_lt_length_iff.2 (List.mem_singleton.mpr rfl)⟩ = ix3 (y 0) (y 1) 0 := by
      funext b
      match b with
      | ⟨0, _⟩ => exact Fin.ext rfl
      | ⟨1, _⟩ => exact Fin.ext rfl
      | ⟨2, _⟩ => exact Fin.ext rfl
    refine (congrArg (_ + ·) hoff).trans ?_
    show (rowDims N D R C wf).start y idx (0 : Fin 2) + 0 = _
    unfold GatherDims.start
    rw [dif_pos (show (0 : Fin 2) ∈ (rowDims N D R C wf).startIndexMap from List.mem_singleton.mpr rfl), hpos]
    rfl
  | ⟨1, _⟩ =>
    show (rowDims N D R C wf).start y idx (1 : Fin 2) + (rowDims N D R C wf).offCoord y (1 : Fin 2) = (y 2).val
    have hstart : (rowDims N D R C wf).start y idx (1 : Fin 2) = 0 := by
      unfold GatherDims.start
      exact dif_neg (by decide : ¬(1 : Fin 2) ∈ [(0 : Fin 2)])
    rw [hstart, Nat.zero_add]
    rfl

end Cert.Embed

end
-- ==== Proof.KernelValue.lean ====
/- What the idealized kernel computes, at any float values: its result array holds row 0 of the table at every position.

   The steps: the body's stored value repeats the column it loads; so each grid point writes back its block of one array,
   the column repeated; the 40 blocks cover that array; the column is row 0 of the table, transposed by the host; the
   host's last transpose puts the batch axis first. -/
module

public import proofs.«01_k».proof.Proof.Spec
public import proofs.«01_k».proof.Proof.Gen.KernelIdeal.Frame
public import Idealize.ShloMosaic.Lib.Pipeline.Value
public import Idealize.ShloMosaic.Lib.StableHlo.Run

@[expose] public section

noncomputable section

namespace Cert.KernelIdeal.Fill

open Cert.KernelIdeal Cert.KernelIdeal.Gen Cert.Embed
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-! ## One block -/

/-- What the body stores, at `(l, d, b)`: element `d` of the column it loaded. -/
theorem pay_apply (x : Vec F S64x1 .f32) (j : S5x64x4096.Idx) : k0_pay1 x j = x (ix2 (j 1) 0) := by
  unfold k0_pay1
  rw [shapeCast_self, shapeCast_self]
  refine (broadcastTo_apply _ _ j (ix3 0 (j 1) 0) fun a => ?_).trans ?_
  · match a with
    | ⟨0, _⟩ => rfl
    | ⟨1, _⟩ => rfl
    | ⟨2, _⟩ => rfl
  · refine (shapeCast_addUnit_apply ![64, 1] x _ (ix3 0 (j 1) 0)).trans (congrArg x (funext fun a => ?_))
    match a with
    | ⟨0, _⟩ => rfl
    | ⟨1, _⟩ => rfl

/-- The column that the pallas_call is given. -/
abbrev col (c : Dev nD) : Vec F S64x1 .f32 := V m c main_v1

/-- The array that the pallas_call is shown to return: the column repeated over the two outer axes. -/
def filled (c : Dev nD) : Buf (Elt F) ((c : Thread nD τ).loc main_v2) :=
  fun i : S200x64x4096.Idx => col m c (ix2 (i 1) 0)

theorem off2 : (![0, 0] : Fin 2 → Nat) = fun _ => 0 := funext fun a => by fin_cases a <;> rfl
theorem off3 : (![0, 0, 0] : Fin 3 → Nat) = fun _ => 0 := funext fun a => by fin_cases a <;> rfl

/-- The output block's index at point `t` is `(t, 0, 0)`. -/
theorem index_out : ∀ t : Fin cfg0.N, win0_1.index t 0 = t.val ∧ win0_1.index t 1 = 0 ∧ win0_1.index t 2 = 0 :=
  (by decide +kernel : ∀ t : Fin grid0.N, _)
/-- The input block's index is always `(0, 0)`. -/
theorem index_in : ∀ t : Fin cfg0.N, win0_0.index t 0 = 0 ∧ win0_0.index t 1 = 0 :=
  (by decide +kernel : ∀ t : Fin grid0.N, _)

/-- The input block at any point is the whole column. -/
theorem block_in (c : Dev nD) (t : Fin cfg0.N) (j : S64x1.Idx) : iblk m c 0 t j = col m c j := by
  unfold iblk
  show V m c main_v1 ((win0_0.rect t).emb j) = V m c main_v1 j
  refine congrArg _ (funext fun a => Fin.ext ?_)
  match a with
  | ⟨0, _⟩ => exact win0_0.rect_emb_val_of_index_zero t 0 (index_in t).1 j
  | ⟨1, _⟩ => exact win0_0.rect_emb_val_of_index_zero t 1 (index_in t).2 j

/-- What point `t` writes back is its block of `filled`. -/
theorem flushed_eq (c : Dev nD) (t : Fin cfg0.N) :
    (dats m 0 c).flushed 1 t = (win0_1.blk t).view.read (Elt F) (filled m c) := by
  show (cfg0.win 1).cut (grid0.coords t) ((dats m 0 c).after 1 t) = _
  rw [after0_1]
  unfold out0_1
  rw [View.canon_unit_zero off3, View.ld_unit_zero off2]
  funext j
  show k0_pay1 (iblk m c 0 t) j = filled m c ((win0_1.rect t).emb j)
  rw [pay_apply, block_in]
  unfold filled
  refine congrArg _ (congrArg (ix2 · 0) (Fin.ext ?_))
  exact (win0_1.rect_emb_val_of_index_zero t 1 (index_out t).2.1 j).symm

/-! ## The array -/

/-- Index `i` is in point `t`'s block when its first coordinate is one of the five from `5 t`. -/
theorem mem_blk (t : Fin cfg0.N) (i : S200x64x4096.Idx) (h : t.val * 5 ≤ (i 0).val ∧ (i 0).val < t.val * 5 + 5) :
    i ∈ ((cfg0.win 1).blk t).view.set := by
  show i ∈ ((View.whole main_v2).slice (win0_1.rect t)).set
  rw [View.set_slice_whole, Rect.mem_set_unit]
  obtain ⟨e0, e1, e2⟩ := index_out t
  have h1 : (i 1).val < 64 := (i 1).isLt
  have h2 : (i 2).val < 4096 := (i 2).isLt
  intro a
  match a with
  | ⟨0, _⟩ =>
    show win0_1.index t 0 * 5 ≤ (i 0).val ∧ (i 0).val < win0_1.index t 0 * 5 + 5
    rw [e0]; exact h
  | ⟨1, _⟩ =>
    show win0_1.index t 1 * 64 ≤ (i 1).val ∧ (i 1).val < win0_1.index t 1 * 64 + 64
    rw [e1]; omega
  | ⟨2, _⟩ =>
    show win0_1.index t 2 * 4096 ≤ (i 2).val ∧ (i 2).val < win0_1.index t 2 * 4096 + 4096
    rw [e2, Nat.zero_mul, Nat.zero_add]; exact ⟨Nat.zero_le _, h2⟩

/-- The 40 blocks cover the array. -/
theorem cover (i : S200x64x4096.Idx) :
    ∃ t : Fin cfg0.N, (cfg0.win 1).flush t = true ∧ i ∈ ((cfg0.win 1).blk t).view.set := by
  have h0 : (i 0).val < 200 := (i 0).isLt
  have hN : cfg0.N = 40 := N_0
  refine ⟨⟨(i 0).val / 5, by omega⟩, flush0_1 _, mem_blk _ i ?_⟩
  dsimp only
  omega

/-- After the run the pallas_call's array is `filled`. -/
theorem final (c : Dev nD) : (dats m 0 c).arrAt 1 cfg0.N = filled m c :=
  (dats m 0 c).arrAt_eq_of_cover 1 (filled m c) (fun t _ => flushed_eq m c t) cover

/-! ## The host lines on the two sides of the call -/

/-- The column is row 0 of the table. -/
theorem col_apply (c : Dev nD) (d : Fin 64) :
    col m c (ix2 d 0) = m ((c : Thread nD τ).loc main_arg1) (ix2 (n0 := 1000000) (n1 := 64) 0 d) := by
  have e : col m c = transpose S64x1 [1, 0] (extractStridedSlice S1x64 ![0, 0] (m ((c : Thread nD τ).loc main_arg1))
      slices_S1000000x64_S1x64_0_0) transposes_S1x64_S64x1_1_0 := by
    show StableHlo.after hostOps0 (fun b => m (c, b)) (Proc.devRef .tc main_v1) = _
    dsimp only [hostOps0]
    after_results
  rw [e]
  refine (transpose_apply _ _ _ _ (ix2 0 d) fun b => ?_).trans (extractStridedSlice_apply _ _ _ _ _ fun a => ?_)
  · match b with
    | ⟨0, _⟩ => rfl
    | ⟨1, _⟩ => rfl
  · match a with
    | ⟨0, _⟩ => rfl
    | ⟨1, _⟩ => exact (Nat.zero_add _).symm

/-- The result of @main: row 0 of the table at every position. -/
abbrev result (c : Dev nD) : Buf (Elt F) ((c : Thread nD τ).loc main_v3) :=
  padRow (N := 1000000) (D := 64) (R := 4096) (C := 200) (by decide) (m ((c : Thread nD τ).loc main_arg1))

/-- What the host's last transpose leaves in the result's buffer. -/
theorem tail_eq (c : Dev nD) : Pipeline.afterTail₀ cfgs (dats m) 0 (V0 m) [hostOps1] c main_v3 = result m c := by
  have e : Pipeline.afterTail₀ cfgs (dats m) 0 (V0 m) [hostOps1] c main_v3
      = transpose S4096x200x64 [2, 0, 1] (filled m c) transposes_S200x64x4096_S4096x200x64_2_0_1 := by
    have h2 := Pipeline.withArrays_arr spec0 launch0.win.arr_inj c (V0 m c) (fun w => (dats m 0 c).arrAt w cfg0.N) 1
    rw [final m c] at h2
    show StableHlo.after hostOps1 (Pipeline.withArrays spec0 c (V0 m c) fun w => (dats m 0 c).arrAt w cfg0.N)
      (Proc.devRef .tc main_v3) = _
    dsimp only [hostOps1]
    after_results
    exact congrArg (transpose S4096x200x64 [2, 0, 1] · transposes_S200x64x4096_S4096x200x64_2_0_1) h2
  rw [e]
  funext j
  refine (transpose_apply _ _ _ _ (ix3 (j 1) (j 2) (j 0)) fun b => ?_).trans (col_apply m c (j 2))
  match b with
  | ⟨0, _⟩ => rfl
  | ⟨1, _⟩ => rfl
  | ⟨2, _⟩ => rfl

/-- THE RUN: the kernel terminates with row 0 of the table at every position of its result, its arguments unchanged. -/
theorem run : θ_run defs (onTc (τ := τ) (main (F := F))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Fill

end
-- ==== Proof.RefValue.lean ====
/- What the idealized reference computes: row 0 of the table at every position.

   The reference looks up two arrays of rows, weights the first by 0 and the second by 1, and adds them. Over the extended
   reals 0 times anything is 0 and 1 times anything is itself, so the sum is the second lookup. That one has every index 0:
   no index is out of range, and each position reads row 0. -/
module

public import proofs.«01_k».proof.Proof.Spec
public import proofs.«01_k».proof.Proof.Gen.ReferenceIdeal.Run
public import Idealize.ShloMosaic.Lib.ReduceAll
public import Idealize.ShloMosaic.Lib.IdealHost

@[expose] public section

noncomputable section

namespace Cert.ReferenceIdeal.Fill

open Cert.ReferenceIdeal Cert.ReferenceIdeal.Gen Cert.Embed
open Idealize.ShloMosaic Idealize.ShloMosaic.TcCoe Idealize.ShloMosaic.ValueIdx Idealize.SL.Sem

/-! ## The lookup at the padding index -/

/-- The padding indices: 0 at every position. -/
abbrev pads : IVec S4096x200 32 := broadcastInDim S4096x200 ![] bcast_S_S4096x200 (constantI S_ 32 0#32)

/-- The padding indices after the lookup has moved negative ones up by the table's height, with a last axis of length 1. -/
abbrev rows : IVec S4096x200x1 32 :=
  broadcastInDim S4096x200x1 ![0, 1] bcast_S4096x200_S4096x200x1_0_1
    (select (cmpi .slt pads (broadcastInDim S4096x200 ![] bcast_S_S4096x200 (constantI S_ 32 0#32)))
      (addi pads (broadcastInDim S4096x200 ![] bcast_S_S4096x200 (constantI S_ 32 1000000#32))) pads)

/-- Zero is not negative, so they stay 0. -/
theorem rows_apply (i : S4096x200x1.Idx) : rows i = 0#32 := by
  show (if IntOp.cmpi .slt 0#32 0#32 = 1#1 then IntOp.addi 0#32 1000000#32 else 0#32) = 0#32
  decide

/-- Whether each index lies in the table, position by position. -/
abbrev inTable : IVec S4096x200 1 :=
  Host.reduce IntOp.andi
    (andi (cmpi .sge rows (broadcastInDim S4096x200x1 ![] bcast_S_S4096x200x1 (constantI S_ 32 0#32)))
      (cmpi .sle rows (broadcastInDim S4096x200x1 ![0, 1, 2] bcast_S1x1x1_S4096x200x1_0_1_2
        (broadcastInDim S1x1x1 ![2] bcast_S1_S1x1x1_2 (constantI S1 32 999999#32)))))
    (constantI S_ 1 1#1) reducesTo_S4096x200x1_S4096x200_d2 h_S_

/-- Index 0 does. -/
theorem inTable_apply (j : S4096x200.Idx) : inTable j = 1#1 := by
  refine Host.reduce_andi_one _ _ _ _ _ rfl fun i => ?_
  show IntOp.andi (IntOp.cmpi .sge (rows i) 0#32) (IntOp.cmpi .sle (rows i) 999999#32) = 1#1
  rw [rows_apply]
  decide

/-- The lookup of the padding indices in a table `T`, with `fill` where an index is out of range: row 0 of `T` at every
    position. -/
theorem lookup_pads {α : Type} (T : S1000000x64.Idx → α) (fill : S4096x200x64.Idx → α) :
    select (broadcastInDim S4096x200x64 ![0, 1] bcast_S4096x200_S4096x200x64_0_1 inTable)
      (Host.gather gather_S1000000x64_S4096x200x1_S4096x200x64_2_0_n_n_0_2_164 T rows) fill
      = padRow (N := 1000000) (D := 64) (R := 4096) (C := 200) (by decide) T := by
  funext y
  rw [select_apply, show broadcastInDim S4096x200x64 ![0, 1] bcast_S4096x200_S4096x200x64_0_1 inTable y = 1#1 from
    inTable_apply _, select_one]
  refine (gather_rows_apply (N := 1000000) (D := 64) (R := 4096) (C := 200) (by decide) _ T rows y).trans ?_
  refine congrArg T (congrArg (ix2 · (y 2)) (Fin.ext ?_))
  show min (rows _).toInt.toNat _ = 0
  rw [rows_apply]
  decide

/-! ## The run -/

/-- Over the extended reals, weighting `x` by the constant 0 and `y` by the constant 1 and adding gives `y`. -/
theorem mix_eq (x y : FVec Ideal S4096x200x64 .f32) :
    addf (mulf (broadcastInDim S4096x200x64 ![] bcast_S_S4096x200x64 (constant S_ .f32 0x00000000#32)) x)
      (mulf (broadcastInDim S4096x200x64 ![] bcast_S_S4096x200x64 (constant S_ .f32 0x3F800000#32)) y) = y := by
  funext i
  show Ideal.ofBits .f32 0x00000000#32 * x i + Ideal.ofBits .f32 0x3F800000#32 * y i = y i
  rw [Ideal.ofBits_zero_f32, Ideal.ofBits_one_f32, zero_mul, one_mul, zero_add]

/-- THE RUN: the reference terminates with row 0 of the table at every position of its result, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7)
        = padRow (N := 1000000) (D := 64) (R := 4096) (C := 200) (by decide) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨(h c).1.trans ((mix_eq _ _).trans (lookup_pads (m ((c : Thread nD τ).loc main_arg1)) _)), (h c).2⟩)
    (Cert.ReferenceIdeal.Value.run (F := Ideal) m ρ)

end Cert.ReferenceIdeal.Fill

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Spec
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The reference runs to the end with its arguments unchanged and every semaphore at zero. -/
theorem frame_reference : @Cert.quiescent_ReferenceIdeal Cert.ReferenceIdeal.Gen.facts :=
  fun m ρ _ => (θ_run Cert.ReferenceIdeal.defs _ _).mono
    (fun r h => ⟨fun c => (h c).2, sem_eq_zero_of_no_sems (by decide) r.2⟩)
    (Cert.ReferenceIdeal.Fill.run m ρ)

/-- From equal arguments the idealized kernel and the idealized reference both return row 0 of the table at every position,
    whatever the indices and the table hold. -/
theorem same_result :
    @Cert.algebraic_KernelIdeal_ReferenceIdeal Cert.KernelIdeal.Gen.facts Cert.ReferenceIdeal.Gen.facts := by
  intro m ρ m' ρ' _ hargs
  refine ⟨Cert.KernelIdeal.Fill.result m, Cert.KernelIdeal.Fill.run m ρ,
    (θ_run Cert.ReferenceIdeal.defs _ _).mono (fun r h c => ⟨(h c).1.trans ?_, (h c).2⟩)
      (Cert.ReferenceIdeal.Fill.run m' ρ')⟩
  exact congrArg (Cert.Embed.padRow (N := 1000000) (D := 64) (R := 4096) (C := 200) (by decide)) (hargs c).2

/-- The five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, same_result⟩

end Cert.Proof

end
